-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1 : Shape := ⟨1, ![1]⟩
abbrev S4096x32 : Shape := ⟨2, ![4096, 32]⟩
abbrev S33x256 : Shape := ⟨2, ![33, 256]⟩
abbrev S256 : Shape := ⟨1, ![256]⟩
abbrev S256x32 : Shape := ⟨2, ![256, 32]⟩
abbrev S32 : Shape := ⟨1, ![32]⟩
abbrev S_ : Shape := ⟨0, ![]⟩
abbrev S32x256 : Shape := ⟨2, ![32, 256]⟩

class Facts : Prop where
  bcast_S_S1 : S_.BroadcastsInDim S1 (![] : Fin 0 → Fin S1.rank)
  reducesTo_S1_S_d0 : S1.ReducesTo [0] S_
  h_S_ : 0 < S_.numel
  slices_S33x256_S32x256_1_0 : S33x256.Slices ![1, 0] S32x256
  bcast_S_S32x256 : S_.BroadcastsInDim S32x256 (![] : Fin 0 → Fin S32x256.rank)
  reducesTo_S32x256_S_d0_1 : S32x256.ReducesTo [0, 1] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v9 : IVec S_ 1) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : IVec S_ 1 := andi main_v9 main_v18
  main_v19

def fn {F : FTy → Type} [FloatOps F] (main_arg0 : FVec F S1 .f32) (main_arg1 : FVec F S4096x32 .f32) (main_arg2 : FVec F S33x256 .f32) (main_arg3 : FVec F S256 .f32) (main_arg4 : FVec F S256x32 .f32) (main_arg5 : FVec F S32 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S32x256 .f32 := (extractStridedSlice S32x256 ![1, 0] · slices_S33x256_S32x256_1_0) main_arg2
  let main_v5 : FVec F S32x256 .f32 := Host.absf main_v4
  let main_cst_0 : FVec F S_ .f32 := constant S_ .f32 0x7F800000#32
  let main_v6 : FVec F S32x256 .f32 := broadcastInDim S32x256 ![] bcast_S_S32x256 main_cst_0
  let main_v7 : IVec S32x256 1 := cmpf .olt main_v5 main_v6
  let main_c_1 : IVec S_ 1 := constantI S_ 1 1#1
  let main_v8 : IVec S_ 1 := (fun x v => Host.reduce IntOp.andi x v reducesTo_S32x256_S_d0_1 h_S_) main_v7 main_c_1
  let main_v9 : IVec S_ 1 := andi main_v3 main_v8
  let main_v10 : FVec F S256x32 .f32 := Host.absf main_arg4
  let main_cst_2 : FVec F S_ .f32 := constant S_ .f32 0x7F800000#32
  let main_v11 : FVec F S256x32 .f32 := broadcastInDim S256x32 ![] bcast_S_S256x32 main_cst_2
  let main_v12 : IVec S256x32 1 := cmpf .olt main_v10 main_v11
  let main_c_3 : IVec S_ 1 := constantI S_ 1 1#1
  let main_v13 : IVec S_ 1 := (fun x v => Host.reduce IntOp.andi x v reducesTo_S256x32_S_d0_1 h_S_) main_v12 main_c_3
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v9 main_v13 main_v16
-- ==== Kernel.lean ====
abbrev S1 : Shape := ⟨1, ![1]⟩
abbrev S4096x32 : Shape := ⟨2, ![4096, 32]⟩
abbrev S33x256 : Shape := ⟨2, ![33, 256]⟩
abbrev S256 : Shape := ⟨1, ![256]⟩
abbrev S256x32 : Shape := ⟨2, ![256, 32]⟩
abbrev S32 : Shape := ⟨1, ![32]⟩
abbrev S32x4096 : Shape := ⟨2, ![32, 4096]⟩
abbrev S256x33 : Shape := ⟨2, ![256, 33]⟩
abbrev S32x256 : Shape := ⟨2, ![32, 256]⟩
abbrev S256x1 : Shape := ⟨2, ![256, 1]⟩
abbrev S32x1 : Shape := ⟨2, ![32, 1]⟩
abbrev S1x4096 : Shape := ⟨2, ![1, 4096]⟩
abbrev S32x2048 : Shape := ⟨2, ![32, 2048]⟩
abbrev S1x2048 : Shape := ⟨2, ![1, 2048]⟩
abbrev S1x1 : Shape := ⟨2, ![1, 1]⟩
abbrev S256x2048 : Shape := ⟨2, ![256, 2048]⟩
abbrev S256x256 : Shape := ⟨2, ![256, 256]⟩
abbrev S1x256 : Shape := ⟨2, ![1, 256]⟩
abbrev S4096x1 : Shape := ⟨2, ![4096, 1]⟩

abbrev nBuf : Space → Nat
  | .hbm => 15
  | .vmem => 10
  | .smem => 1
  | _ => 0

abbrev bufTy : (tb : Table) → Fin (tcTables nBuf tb) → BufTy
  | .hbm, ⟨0, _⟩ => ⟨S1, .f32⟩
  | .hbm, ⟨1, _⟩ => ⟨S4096x32, .f32⟩
  | .hbm, ⟨2, _⟩ => ⟨S33x256, .f32⟩
  | .hbm, ⟨3, _⟩ => ⟨S256, .f32⟩
  | .hbm, ⟨4, _⟩ => ⟨S256x32, .f32⟩
  | .hbm, ⟨5, _⟩ => ⟨S32, .f32⟩
  | .hbm, ⟨6, _⟩ => ⟨S32x4096, .f32⟩
  | .hbm, ⟨7, _⟩ => ⟨S256x33, .f32⟩
  | .hbm, ⟨8, _⟩ => ⟨S32x256, .f32⟩
  | .hbm, ⟨9, _⟩ => ⟨S256x1, .f32⟩
  | .hbm, ⟨10, _⟩ => ⟨S32x1, .f32⟩
  | .hbm, ⟨11, _⟩ => ⟨S32x4096, .f32⟩
  | .hbm, ⟨12, _⟩ => ⟨S1x4096, .f32⟩
  | .hbm, ⟨13, _⟩ => ⟨S4096x32, .f32⟩
  | .hbm, ⟨14, _⟩ => ⟨S4096x1, .f32⟩
  | .local _ .vmem, ⟨0, _⟩ => ⟨S32x2048, .f32⟩
  | .local _ .vmem, ⟨1, _⟩ => ⟨S32x2048, .f32⟩
  | .local _ .vmem, ⟨2, _⟩ => ⟨S256x33, .f32⟩
  | .local _ .vmem, ⟨3, _⟩ => ⟨S256x1, .f32⟩
  | .local _ .vmem, ⟨4, _⟩ => ⟨S32x256, .f32⟩
  | .local _ .vmem, ⟨5, _⟩ => ⟨S32x1, .f32⟩
  | .local _ .vmem, ⟨6, _⟩ => ⟨S32x2048, .f32⟩
  | .local _ .vmem, ⟨7, _⟩ => ⟨S32x2048, .f32⟩
  | .local _ .vmem, ⟨8, _⟩ => ⟨S1x2048, .f32⟩
  | .local _ .vmem, ⟨9, _⟩ => ⟨S1x2048, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x33 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1 : Shape := ⟨1, ![1]⟩
abbrev S4096x32 : Shape := ⟨2, ![4096, 32]⟩
abbrev S33x256 : Shape := ⟨2, ![33, 256]⟩
abbrev S256 : Shape := ⟨1, ![256]⟩
abbrev S256x32 : Shape := ⟨2, ![256, 32]⟩
abbrev S32 : Shape := ⟨1, ![32]⟩
abbrev S_ : Shape := ⟨0, ![]⟩
abbrev S4096x1 : Shape := ⟨2, ![4096, 1]⟩
abbrev S4096x33 : Shape := ⟨2, ![4096, 33]⟩
abbrev S4096x256 : Shape := ⟨2, ![4096, 256]⟩
abbrev S1x256 : Shape := ⟨2, ![1, 256]⟩
abbrev S1x32 : Shape := ⟨2, ![1, 32]⟩
abbrev S32x32 : Shape := ⟨2, ![32, 32]⟩
abbrev S32x4096x32 : Shape := ⟨3, ![32, 4096, 32]⟩
abbrev S32x4096x1 : Shape := ⟨3, ![32, 4096, 1]⟩
abbrev S32x4096x33 : Shape := ⟨3, ![32, 4096, 33]⟩
abbrev S32x4096x256 : Shape := ⟨3, ![32, 4096, 256]⟩
abbrev S1x4096x256 : Shape := ⟨3, ![1, 4096, 256]⟩
abbrev S1x4096x1 : Shape := ⟨3, ![1, 4096, 1]⟩
abbrev S4096 : Shape := ⟨1, ![4096]⟩

abbrev nBuf : Space → Nat
  | .hbm => 108
  | .vmem => 0
  | .smem => 0
  | _ => 0

abbrev bufTy : (tb : Table) → Fin (tcTables nBuf tb) → BufTy
  | .hbm, ⟨0, _⟩ => ⟨S1, .f32⟩
  | .hbm, ⟨1, _⟩ => ⟨S4096x32, .f32⟩
  | .hbm, ⟨2, _⟩ => ⟨S33x256, .f32⟩
  | .hbm, ⟨3, _⟩ => ⟨S256, .f32⟩
  | .hbm, ⟨4, _⟩ => ⟨S256x32, .f32⟩
  | .hbm, ⟨5, _⟩ => ⟨S32, .f32⟩
  | .hbm, ⟨6, _⟩ => ⟨S_, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x33, .f32⟩
  | .hbm, ⟨25, _⟩ => ⟨S4096x256, .f32⟩
  | .hbm, ⟨26, _⟩ => ⟨S1x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S4096x32, .f32⟩
  | .hbm, ⟨31, _⟩ => ⟨S1x32, .f32⟩
  | .hbm, ⟨32, _⟩ => ⟨S4096x32, .f32⟩
  | .hbm, ⟨33, _⟩ => ⟨S4096x32, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x32, .f32⟩
  | .hbm, ⟨41, _⟩ => ⟨S4096x32, .f32⟩
  | .hbm, ⟨42, _⟩ => ⟨S4096x32, .f32⟩
  | .hbm, ⟨43, _⟩ => ⟨S4096x32, .f32⟩
  | .hbm, ⟨44, _⟩ => ⟨S4096x32, .f32⟩
  | .hbm, ⟨45, _⟩ => ⟨S32x32, .i32⟩
  | .hbm, ⟨46, _⟩ => ⟨S32x32, .i32⟩
  | .hbm, ⟨47, _⟩ => ⟨S_, .i32⟩
  | .hbm, ⟨48, _⟩ => ⟨S32x32, .i32⟩
  | .hbm, ⟨49, _⟩ => ⟨S32x32, .i32⟩
  | .hbm, ⟨50, _⟩ => ⟨S32x32, .i1⟩
  | .hbm, ⟨51, _⟩ => ⟨S32x32, .f32⟩
  | .hbm, ⟨52, _⟩ => ⟨S32x4096x32, .f32⟩
  | .hbm, ⟨53, _⟩ => ⟨S4096x33, .f32⟩
  | .hbm, ⟨54, _⟩ => ⟨S_, .f32⟩
  | .hbm, ⟨55, _⟩ => ⟨S4096x1, .f32⟩
  | .hbm, ⟨56, _⟩ => ⟨S32x4096x1, .f32⟩
  | .hbm, ⟨57, _⟩ => ⟨S32x4096x33, .f32⟩
  | .hbm, ⟨58, _⟩ => ⟨S4096x256, .f32⟩
  | .hbm, ⟨59, _⟩ => ⟨S32x4096x256, .f32⟩
  | .hbm, ⟨60, _⟩ => ⟨S1x256, .f32⟩
  | .hbm, ⟨61, _⟩ => ⟨S4096x256, .f32⟩
  | .hbm, ⟨62, _⟩ => ⟨S4096x256, .f32⟩
  | .hbm, ⟨63, _⟩ => ⟨S4096x256, .f32⟩
  | .hbm, ⟨64, _⟩ => ⟨S_, .f32⟩
  | .hbm, ⟨65, _⟩ => ⟨S4096x256, .f32⟩
  | .hbm, ⟨66, _⟩ => ⟨S4096x256, .f32⟩
  | .hbm, ⟨67, _⟩ => ⟨S_, .f32⟩
  | .hbm, ⟨68, _⟩ => ⟨S4096x256, .f32⟩
  | .hbm, ⟨69, _⟩ => ⟨S4096x256, .f32⟩
  | .hbm, ⟨70, _⟩ => ⟨S4096x256, .f32⟩
  | .hbm, ⟨71, _⟩ => ⟨S1x4096x256, .f32⟩
  | .hbm, ⟨72, _⟩ => ⟨S32x4096x256, .f32⟩
  | .hbm, ⟨73, _⟩ => ⟨S32x4096x256, .f32⟩
  | .hbm, ⟨74, _⟩ => ⟨S4096x32, .f32⟩
  | .hbm, ⟨75, _⟩ => ⟨S32x4096x32, .f32⟩
  | .hbm, ⟨76, _⟩ => ⟨S1x32, .f32⟩
  | .hbm, ⟨77, _⟩ => ⟨S4096x32, .f32⟩
  | .hbm, ⟨78, _⟩ => ⟨S4096x32, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S4096x32, .f32⟩
  | .hbm, ⟨86, _⟩ => ⟨S4096x32, .f32⟩
  | .hbm, ⟨87, _⟩ => ⟨S1x4096x1, .f32⟩
  | .hbm, ⟨88, _⟩ => ⟨S32x4096x32, .f32⟩
  | .hbm, ⟨89, _⟩ => ⟨S32x4096x32, .f32⟩
  | .hbm, ⟨90, _⟩ => ⟨S4096x32, .f32⟩
  | .hbm, ⟨91, _⟩ => ⟨S32x4096x32, .f32⟩
  | .hbm, ⟨92, _⟩ => ⟨S4096x32, .f32⟩
  | .hbm, ⟨93, _⟩ => ⟨S4096x32, .f32⟩
  | .hbm, ⟨94, _⟩ => ⟨S1x4096x1, .f32⟩
  | .hbm, ⟨95, _⟩ => ⟨S32x4096x32, .f32⟩
  | .hbm, ⟨96, _⟩ => ⟨S32x4096x32, .f32⟩
  | .hbm, ⟨97, _⟩ => ⟨S32x32, .i32⟩
  | .hbm, ⟨98, _⟩ => ⟨S32x32, .i32⟩
  | .hbm, ⟨99, _⟩ => ⟨S32x32, .i1⟩
  | .hbm, ⟨100, _⟩ => ⟨S32x4096x32, .i1⟩
  | .hbm, ⟨101, _⟩ => ⟨S_, .f32⟩
  | .hbm, ⟨102, _⟩ => ⟨S32x4096x32, .f32⟩
  | .hbm, ⟨103, _⟩ => ⟨S32x4096x32, .f32⟩
  | .hbm, ⟨104, _⟩ => ⟨S_, .f32⟩
  | .hbm, ⟨105, _⟩ => ⟨S4096, .f32⟩
  | .hbm, ⟨106, _⟩ => ⟨S4096x1, .f32⟩
  | .hbm, ⟨107, _⟩ => ⟨S4096x1, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_8 : Ref sig .tc := ⟨.hbm, 79, rfl⟩
abbrev main_v63 : Ref sig .tc := ⟨.hbm, 80, rfl⟩
abbrev main_v64 : Ref sig .tc := ⟨.hbm, 81, rfl⟩
abbrev main_cst_9 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_10 : Ref sig .tc := ⟨.hbm, 101, rfl⟩
abbrev main_v83 : Ref sig .tc := ⟨.hbm, 102, rfl⟩
abbrev main_v84 : Ref sig .tc := ⟨.hbm, 103, rfl⟩
abbrev main_cst_11 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩

abbrev nD : Nat := 1
abbrev τ : Topo := Topo.v7x

variable {F : FTy → Type} [FloatOps F]
-- ==== Proof.Spec.lean ====
/-
  The numbers that the programs compute, written as plain formulas over extended reals: one row `z` of the batch, the
  time `t`, and the weights `w`, `b`, `u`, `e` of the two layers. `w` is the first layer with its row 0 for the time.
-/
module

public import Idealize.ShloMosaic.Lib.Pointwise

@[expose] public section

noncomputable section

namespace Cert.Proof.Spec

open Idealize.ShloMosaic

/-- Minus the time, as the kernel spells it: a constant times `t`. -/
def negT (t : EReal) : EReal := Ideal.ofBits .f32 3212836864#32 * t

/-- The reciprocal square root of `1 - exp (-t²)`, as the kernel spells it. -/
def invStd (t : EReal) : EReal := Ideal.rsqrt (1 - Ideal.exp (0 - t * t))

/-- Hidden unit `h` of the first layer at one row of the batch, as the kernel adds it up. -/
def hid (t : EReal) (z : Fin 32 → EReal) (w : Fin 33 → Fin 256 → EReal) (b : Fin 256 → EReal) (h : Fin 256) : EReal :=
  Ideal.tanh (∑ x : Fin 32, w ⟨1 + x, by omega⟩ h * z x + (t * w 0 h + b h))

/-- The second layer at output coordinate `d`, from the hidden units `g`. -/
def layer2 (g : Fin 256 → EReal) (u : Fin 256 → Fin 32 → EReal) (e : Fin 32 → EReal) (d : Fin 32) : EReal :=
  ∑ x : Fin 256, u x d * g x + e d

/-- The kernel's first result: coordinate `d` of the drift at one row. -/
def drift (t : EReal) (z : Fin 32 → EReal) (w : Fin 33 → Fin 256 → EReal) (b : Fin 256 → EReal)
    (u : Fin 256 → Fin 32 → EReal) (e : Fin 32 → EReal) (d : Fin 32) : EReal :=
  negT t * z d - negT t * invStd t * layer2 (hid t z w b) u e d

/-- The weight that hidden unit `h` gets in the trace: the diagonal of the product of the two layers, which the kernel
    takes by masking the whole product off its diagonal and summing each column. -/
def diagW (w : Fin 33 → Fin 256 → EReal) (u : Fin 256 → Fin 32 → EReal) (h : Fin 256) : EReal :=
  ∑ x : Fin 256, Scalar.select (IntOp.cmpi CmpIPredicate.eq (BitVec.ofNat 32 ↑x) (BitVec.ofNat 32 ↑h))
    (∑ d : Fin 32, w ⟨1 + d, by omega⟩ x * u h d) 0

/-- The kernel's second result at one row: minus the trace of the drift's Jacobian. -/
def negTrace (t : EReal) (z : Fin 32 → EReal) (w : Fin 33 → Fin 256 → EReal) (b : Fin 256 → EReal)
    (u : Fin 256 → Fin 32 → EReal) : EReal :=
  negT t * invStd t * (∑ h : Fin 256, diagW w u h) - negT t * Ideal.ofBits .f32 1107296256#32
    - ∑ h : Fin 256, negT t * invStd t * diagW w u h * (hid t z w b h * hid t z w b h)

end Cert.Proof.Spec

end
-- ==== Proof.KernelRun.lean ====
/-
  The kernel's run, read as numbers. The program transposes the batch and the weights, runs the kernel at two points
  with 2048 rows of the batch each, and transposes the kernel's two results back. Here each block that a point reads is
  read down to an element of the program's arguments, the two values that a point stores become the formulas of
  Spec.lean at that block's rows, and the two points together fill both result arrays.
-/
module

public import proofs.«01_k».proof.Proof.Gen.KernelIdeal.Frame
public import proofs.«01_k».proof.Proof.Spec
public import Idealize.ShloMosaic.Lib.Pipeline.ValueKit
public import Idealize.ShloMosaic.Lib.Claim

@[expose] public section

set_option maxRecDepth 16384

noncomputable section

namespace Cert.Proof.KernelRun

open Idealize.ShloMosaic Idealize.SL.Sem Idealize.ShloMosaic.TcCoe
open Cert.KernelIdeal Cert.KernelIdeal.Gen

variable (m : (ℓ : Loc nD τ sig) → Buf (Elt Ideal) ℓ)

/-! ## The arguments as functions of their coordinates -/

/-- The time. -/
abbrev tm (c : Dev nD) : EReal := m ((c : Thread nD τ).loc main_arg0) (ix1 (0 : Fin 1))
/-- Row `r` of the batch. -/
abbrev row (c : Dev nD) (r : Fin 4096) (d : Fin 32) : EReal := m ((c : Thread nD τ).loc main_arg1) (ix2 r d)
/-- The first layer's weights; row 0 multiplies the time. -/
abbrev w1 (c : Dev nD) (k : Fin 33) (h : Fin 256) : EReal := m ((c : Thread nD τ).loc main_arg2) (ix2 k h)
/-- The first layer's bias. -/
abbrev b1 (c : Dev nD) (h : Fin 256) : EReal := m ((c : Thread nD τ).loc main_arg3) (ix1 h)
/-- The second layer's weights. -/
abbrev w2 (c : Dev nD) (h : Fin 256) (d : Fin 32) : EReal := m ((c : Thread nD τ).loc main_arg4) (ix2 h d)
/-- The second layer's bias. -/
abbrev b2 (c : Dev nD) (d : Fin 32) : EReal := m ((c : Thread nD τ).loc main_arg5) (ix1 d)

/-- What the kernel's first result array is shown to hold: the drift, one row of the batch in each column. -/
def driftT (c : Dev nD) : Buf (Elt Ideal) ((c : Thread nD τ).loc main_v5_0) := fun i : S32x4096.Idx =>
  Spec.drift (tm m c) (row m c (i 1)) (w1 m c) (b1 m c) (w2 m c) (b2 m c) (i 0)

/-- What the kernel's second result array is shown to hold: minus the trace, one row of the batch in each column. -/
def negTraceT (c : Dev nD) : Buf (Elt Ideal) ((c : Thread nD τ).loc main_v5_1) := fun i : S1x4096.Idx =>
  Spec.negTrace (tm m c) (row m c (i 1)) (w1 m c) (b1 m c) (w2 m c)

/-! ## Which block each point reads and writes -/

/-- The time's block is the whole of it. -/
theorem index0 : ∀ t : Fin grid0.N, win0_0.index t = ![0] := by decide +kernel
/-- Point `t` reads columns from `2048 t` of the transposed batch. -/
theorem index1 : ∀ t : Fin grid0.N, win0_1.index t = ![0, t.val] := by decide +kernel
/-- The first layer's weights are read whole. -/
theorem index2 : ∀ t : Fin grid0.N, win0_2.index t = ![0, 0] := by decide +kernel
/-- The first layer's bias is read whole. -/
theorem index3 : ∀ t : Fin grid0.N, win0_3.index t = ![0, 0] := by decide +kernel
/-- The second layer's weights are read whole. -/
theorem index4 : ∀ t : Fin grid0.N, win0_4.index t = ![0, 0] := by decide +kernel
/-- The second layer's bias is read whole. -/
theorem index5 : ∀ t : Fin grid0.N, win0_5.index t = ![0, 0] := by decide +kernel
/-- Point `t` writes columns from `2048 t` of the first result. -/
theorem index6 : ∀ t : Fin grid0.N, win0_6.index t = ![0, t.val] := by decide +kernel
/-- Point `t` writes columns from `2048 t` of the second result. -/
theorem index7 : ∀ t : Fin grid0.N, win0_7.index t = ![0, t.val] := by decide +kernel

/-! ## The arrays that the program makes of its arguments before the kernel -/

/-- The batch, transposed. -/
theorem V_v0_apply (c : Dev nD) (k : Fin 32) (r : Fin 4096) : V m c main_v0 (ix2 k r) = row m c r k := by
  show StableHlo.after hostOps0 (fun b => m (c, b)) (Proc.devRef .tc main_v0) (ix2 k r) = _
  after_results_simp
  pointwise

/-- The first layer's weights, transposed. -/
theorem V_v1_apply (c : Dev nD) (h : Fin 256) (k : Fin 33) : V m c main_v1 (ix2 h k) = w1 m c k h := by
  show StableHlo.after hostOps0 (fun b => m (c, b)) (Proc.devRef .tc main_v1) (ix2 h k) = _
  after_results_simp
  pointwise

/-- The second layer's weights, transposed. -/
theorem V_v2_apply (c : Dev nD) (d : Fin 32) (h : Fin 256) : V m c main_v2 (ix2 d h) = w2 m c h d := by
  show StableHlo.after hostOps0 (fun b => m (c, b)) (Proc.devRef .tc main_v2) (ix2 d h) = _
  after_results_simp
  pointwise

/-- The first layer's bias, as a column. -/
theorem V_v3_apply (c : Dev nD) (h : Fin 256) : V m c main_v3 (ix2 h 0) = b1 m c h := by
  show StableHlo.after hostOps0 (fun b => m (c, b)) (Proc.devRef .tc main_v3) (ix2 h 0) = _
  after_results_simp
  pointwise

/-- The second layer's bias, as a column. -/
theorem V_v4_apply (c : Dev nD) (d : Fin 32) : V m c main_v4 (ix2 d 0) = b2 m c d := by
  show StableHlo.after hostOps0 (fun b => m (c, b)) (Proc.devRef .tc main_v4) (ix2 d 0) = _
  after_results_simp
  pointwise

/-! ## The blocks that a point reads, down to the arguments -/

/-- The time, at any index of its one-element block. -/
theorem iblk0_apply (c : Dev nD) (t : Fin cfg0.N) (x : S1.Idx) : iblk m c 0 t x = tm m c := by
  have e := index0 t
  blk_ext [iblk, V, e]

/-- Column `l` of point `t`'s block of the batch is row `2048 t + l` of the batch. -/
theorem iblk1_apply (c : Dev nD) (t : Fin cfg0.N) (k : Fin 32) (l : Fin 2048) (r : Fin 4096)
    (hr : r.val = t.val * 2048 + l.val) : iblk m c 1 t (ix2 k l) = row m c r k := by
  have e := index1 t
  rw [← V_v0_apply]
  blk_ext [iblk, e]

/-- The first layer's weights as a point reads them. -/
theorem iblk2_apply (c : Dev nD) (t : Fin cfg0.N) (h : Fin 256) (k : Fin 33) :
    iblk m c 2 t (ix2 h k) = w1 m c k h := by
  have e := index2 t
  rw [← V_v1_apply]
  blk_ext [iblk, e]

/-- The first layer's bias as a point reads it. -/
theorem iblk3_apply (c : Dev nD) (t : Fin cfg0.N) (h : Fin 256) : iblk m c 3 t (ix2 h 0) = b1 m c h := by
  have e := index3 t
  rw [← V_v3_apply]
  blk_ext [iblk, e]

/-- The second layer's weights as a point reads them. -/
theorem iblk4_apply (c : Dev nD) (t : Fin cfg0.N) (d : Fin 32) (h : Fin 256) :
    iblk m c 4 t (ix2 d h) = w2 m c h d := by
  have e := index4 t
  rw [← V_v2_apply]
  blk_ext [iblk, e]

/-- The second layer's bias as a point reads it. -/
theorem iblk5_apply (c : Dev nD) (t : Fin cfg0.N) (d : Fin 32) : iblk m c 5 t (ix2 d 0) = b2 m c d := by
  have e := index5 t
  rw [← V_v4_apply]
  blk_ext [iblk, e]

/-! ## What a point computes and stores -/

/-- The hidden units that point `t` computes are those of the batch's row. -/
theorem hid_apply (c : Dev nD) (t : Fin cfg0.N) (h : Fin 256) (l : Fin 2048) (r : Fin 4096)
    (hr : r.val = t.val * 2048 + l.val) :
    k0_pay8 (F := Ideal) (tm m c) (iblk m c 1 t) (iblk m c 2 t) (iblk m c 3 t) (ix2 h l)
      = Spec.hid (tm m c) (row m c r) (w1 m c) (b1 m c) h := by
  unfold Spec.hid
  pointwise [k0_pay8, k0_pay4, k0_pay3, k0_pay2]
  simp only [iblk1_apply m c t _ l r hr, iblk2_apply, iblk3_apply]

/-- The value that point `t` stores into the first result is the drift at the batch's row. -/
theorem drift_apply (c : Dev nD) (t : Fin cfg0.N) (d : Fin 32) (l : Fin 2048) (r : Fin 4096)
    (hr : r.val = t.val * 2048 + l.val) :
    k0_pay9 (F := Ideal) (tm m c) (iblk m c 1 t) (iblk m c 2 t) (iblk m c 4 t) (iblk m c 3 t) (iblk m c 5 t) (ix2 d l)
      = Spec.drift (tm m c) (row m c r) (w1 m c) (b1 m c) (w2 m c) (b2 m c) d := by
  unfold Spec.drift Spec.layer2 Spec.negT Spec.invStd
  pointwise [k0_pay9, k0_pay7, k0_pay6, k0_pay5, k0_pay2]
  simp only [iblk1_apply m c t _ l r hr, hid_apply m c t _ l r hr, iblk4_apply, iblk5_apply]

/-- The value that point `t` stores into the second result is minus the trace at the batch's row. -/
theorem negTrace_apply (c : Dev nD) (t : Fin cfg0.N) (l : Fin 2048) (r : Fin 4096)
    (hr : r.val = t.val * 2048 + l.val) :
    k0_pay1 (F := Ideal) (k0_pay4 (iblk m c 2 t)) (k0_pay5 (iblk m c 4 t)) (k0_pay6 (tm m c)) (k0_pay7 (tm m c))
        (k0_pay8 (tm m c) (iblk m c 1 t) (iblk m c 2 t) (iblk m c 3 t)) (ix2 0 l)
      = Spec.negTrace (tm m c) (row m c r) (w1 m c) (b1 m c) (w2 m c) := by
  unfold Spec.negTrace Spec.diagW Spec.negT Spec.invStd
  pointwise [k0_pay1, k0_pay7, k0_pay6, k0_pay5, k0_pay4, k0_pay3]
  simp only [hid_apply m c t _ l r hr, iblk2_apply, iblk4_apply]

/-! ## The two result arrays after the run -/

/-- The kernel's first result array ends holding the drift: the two points' blocks fill it. -/
theorem final6 (c : Dev nD) : (dats m 0 c).arrAt 6 cfg0.N = driftT m c := by
  refine (dats m 0 c).arrAt_eq_of_covers 6 _ (by decide +kernel) fun t hf y => ?_
  blk_simp
  rw [after0_6]
  unfold outsAt0
  frame_out
  have e := index6 t
  obtain ⟨d, l, rfl⟩ : ∃ (d : Fin 32) (l : Fin 2048), y = ix2 d l := ⟨y 0, y 1, eq_ix2 y⟩
  have hl := l.isLt
  have ht : t.val < 2 := lt_of_lt_of_eq t.isLt N_0
  have hr : t.val * 2048 + l.val < 4096 := by omega
  have h6 : driftT m c (((View.whole main_v5_0).slice (win0_6.rect t)).emb (ix2 d l))
      = driftT m c (ix2 d ⟨t.val * 2048 + l.val, hr⟩) := by
    blk_ext [e]
  have h0 : ∀ x, View.ld (iblk m c 0 t) (Rect.unit ![0] ![1] inb_S1_S1_0) x = tm m c := fun x => iblk0_apply m c t _
  rw [h6, h0]
  exact drift_apply m c t d l ⟨t.val * 2048 + l.val, hr⟩ rfl

/-- The kernel's second result array ends holding minus the trace. -/
theorem final7 (c : Dev nD) : (dats m 0 c).arrAt 7 cfg0.N = negTraceT m c := by
  refine (dats m 0 c).arrAt_eq_of_covers 7 _ (by decide +kernel) fun t hf y => ?_
  blk_simp
  rw [after0_7]
  unfold outsAt0
  frame_out
  have e := index7 t
  obtain ⟨l, rfl⟩ : ∃ l : Fin 2048, y = ix2 0 l := by
    obtain ⟨z, l, rfl⟩ : ∃ (z : Fin 1) (l : Fin 2048), y = ix2 z l := ⟨y 0, y 1, eq_ix2 y⟩
    exact ⟨l, by rw [Subsingleton.elim z 0]⟩
  have hl := l.isLt
  have ht : t.val < 2 := lt_of_lt_of_eq t.isLt N_0
  have hr : t.val * 2048 + l.val < 4096 := by omega
  have h7 : negTraceT m c (((View.whole main_v5_1).slice (win0_7.rect t)).emb (ix2 0 l))
      = negTraceT m c (ix2 0 ⟨t.val * 2048 + l.val, hr⟩) := by
    blk_ext [e]
  have h0 : ∀ x, View.ld (iblk m c 0 t) (Rect.unit ![0] ![1] inb_S1_S1_0) x = tm m c := fun x => iblk0_apply m c t _
  rw [h7, h0]
  exact negTrace_apply m c t l ⟨t.val * 2048 + l.val, hr⟩ rfl

/-! ## The run -/

/-- The first result, with the rows of the batch as rows. -/
def driftOut (c : Dev nD) : Buf (Elt Ideal) ((c : Thread nD τ).loc main_v6) :=
  transpose S4096x32 [1, 0] (driftT m c) transposes_S32x4096_S4096x32_1_0

/-- The second result, with the rows of the batch as rows. -/
def negTraceOut (c : Dev nD) : Buf (Elt Ideal) ((c : Thread nD τ).loc main_v7) :=
  transpose S4096x1 [1, 0] (negTraceT m c) transposes_S1x4096_S4096x1_1_0

/-- The first result at row `r` and coordinate `d`. -/
theorem driftOut_apply (c : Dev nD) (r : Fin 4096) (d : Fin 32) :
    driftOut m c (ix2 r d) = Spec.drift (tm m c) (row m c r) (w1 m c) (b1 m c) (w2 m c) (b2 m c) d := by
  unfold driftOut
  pointwise
  rfl

/-- The second result at row `r`. -/
theorem negTraceOut_apply (c : Dev nD) (r : Fin 4096) :
    negTraceOut m c (ix2 r 0) = Spec.negTrace (tm m c) (row m c r) (w1 m c) (b1 m c) (w2 m c) := by
  unfold negTraceOut
  pointwise
  rfl

/-- The whole program ends with the two results at the formulas, and its arguments as they were. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6) = driftOut m c
      ∧ r.2.mem ((c.tc : Thread nD τ).loc main_v7) = negTraceOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  run_from run_main m ρ
  · show StableHlo.after hostOps1 (Pipeline.withArrays spec0 c (V0 m c) fun w => (dats m 0 c).arrAt w cfg0.N)
      (Proc.devRef .tc main_v6) = _
    after_results_simp
    exact congrArg (transpose S4096x32 [1, 0] · transposes_S32x4096_S4096x32_1_0)
      ((Pipeline.withArrays_arr spec0 (by decide) c (V0 m c) _ 6).trans (final6 m c))
  · show StableHlo.after hostOps1 (Pipeline.withArrays spec0 c (V0 m c) fun w => (dats m 0 c).arrAt w cfg0.N)
      (Proc.devRef .tc main_v7) = _
    after_results_simp
    exact congrArg (transpose S4096x1 [1, 0] · transposes_S1x4096_S4096x1_1_0)
      ((Pipeline.withArrays_arr spec0 (by decide) c (V0 m c) _ 7).trans (final7 m c))
  · exact W_main_arg1 m (dats m) c
  · exact W_main_arg2 m (dats m) c
  · exact W_main_arg3 m (dats m) c
  · exact W_main_arg4 m (dats m) c
  · exact W_main_arg5 m (dats m) c

end Cert.Proof.KernelRun

end
-- ==== Proof.RefSpec.lean ====
/-
  The numbers that the reference computes, written as plain formulas over extended reals. The names are those of
  `Spec`: one row `z` of the batch, the time `t`, and the weights `w`, `b`, `u`, `e` of the two layers.
-/
module

public import Idealize.ShloMosaic.Lib.Pointwise

@[expose] public section

noncomputable section

namespace Cert.Proof.RefSpec

open Idealize.ShloMosaic

/-- The factor `-0.5 * (2 * t)` in front of the drift. -/
def factor (t : EReal) : EReal := Ideal.ofBits .f32 3204448256#32 * (Ideal.ofBits .f32 1073741824#32 * t)

/-- The scale `1 / sqrt (1 - exp (-t²))` of the score. -/
def scale (t : EReal) : EReal := Ideal.div 1 (Ideal.sqrt (1 - Ideal.exp (-(t * t))))

/-- Hidden unit `h` of the first layer, whose input is the time followed by the row. -/
def hid (t : EReal) (z : Fin 32 → EReal) (w : Fin 33 → Fin 256 → EReal) (b : Fin 256 → EReal) (h : Fin 256) : EReal :=
  Ideal.tanh (∑ _x : Fin 1, t * w 0 h + ∑ x : Fin 32, z x * w ⟨1 + x, by omega⟩ h + b h)

/-- The first result: coordinate `d` of the drift at one row. -/
def drift (t : EReal) (z : Fin 32 → EReal) (w : Fin 33 → Fin 256 → EReal) (b : Fin 256 → EReal)
    (u : Fin 256 → Fin 32 → EReal) (e : Fin 32 → EReal) (d : Fin 32) : EReal :=
  factor t * (z d - scale t * (∑ x : Fin 256, hid t z w b x * u x d + e d))

/-- Entry `(i, k)` of the identity matrix whose rows are the directions of differentiation. -/
def oneHot (i k : Fin 32) : EReal :=
  FloatOps.uitofp (F := Ideal) FTy.f32
    (IntOp.cmpi CmpIPredicate.eq (IntOp.addi (BitVec.ofNat 32 ↑i) 0#32) (BitVec.ofNat 32 ↑k))

/-- The derivative of hidden unit `h` in direction `i`; the time does not move. -/
def tangent (t : EReal) (z : Fin 32 → EReal) (w : Fin 33 → Fin 256 → EReal) (b : Fin 256 → EReal) (i : Fin 32)
    (h : Fin 256) : EReal :=
  (∑ _x : Fin 1, 0 * w 0 h + ∑ k : Fin 32, oneHot i k * w ⟨1 + k, by omega⟩ h)
    * ((1 + hid t z w b h) * (1 - hid t z w b h))

/-- The derivative of coordinate `d` of the drift in direction `i`. -/
def jac (t : EReal) (z : Fin 32 → EReal) (w : Fin 33 → Fin 256 → EReal) (b : Fin 256 → EReal)
    (u : Fin 256 → Fin 32 → EReal) (i d : Fin 32) : EReal :=
  factor t * (oneHot i d - scale t * ∑ h : Fin 256, tangent t z w b i h * u h d)

/-- The second result at one row: minus the sum of the Jacobian masked to its diagonal. -/
def negTrace (t : EReal) (z : Fin 32 → EReal) (w : Fin 33 → Fin 256 → EReal) (b : Fin 256 → EReal)
    (u : Fin 256 → Fin 32 → EReal) : EReal :=
  -(∑ i : Fin 32, ∑ d : Fin 32,
    Scalar.select (IntOp.cmpi CmpIPredicate.eq (BitVec.ofNat 32 ↑i) (BitVec.ofNat 32 ↑d)) (jac t z w b u i d) 0)

end Cert.Proof.RefSpec

end
-- ==== Proof.RefValue.lean ====
/-
  The two results of the reference at an index, as the formulas of `RefSpec` over the arguments.
-/
module

public import proofs.«01_k».proof.Proof.Gen.ReferenceIdeal.Read
public import proofs.«01_k».proof.Proof.RefSpec
public import Idealize.ShloMosaic.Lib.Pointwise

@[expose] public section

set_option maxRecDepth 16384

noncomputable section

namespace Cert.Proof.RefValue

open Idealize.ShloMosaic Idealize.SL.Sem
open Cert.ReferenceIdeal Cert.ReferenceIdeal.Gen Cert.ReferenceIdeal.Read

variable (x0 : FVec Ideal S1 .f32) (x1 : FVec Ideal S4096x32 .f32) (x2 : FVec Ideal S33x256 .f32)
  (x3 : FVec Ideal S256 .f32) (x4 : FVec Ideal S256x32 .f32) (x5 : FVec Ideal S32 .f32)

/-- The time, the only entry of its argument. -/
abbrev tm : EReal := x0 (ix1 0)
/-- Row `r` of the batch. -/
abbrev row (r : Fin 4096) : Fin 32 → EReal := fun k => x1 (ix2 r k)
/-- The first layer's weights. -/
abbrev w1 : Fin 33 → Fin 256 → EReal := fun k h => x2 (ix2 k h)
/-- The first layer's bias. -/
abbrev b1 : Fin 256 → EReal := fun h => x3 (ix1 h)
/-- The second layer's weights. -/
abbrev w2 : Fin 256 → Fin 32 → EReal := fun h d => x4 (ix2 h d)
/-- The second layer's bias. -/
abbrev b2 : Fin 32 → EReal := fun d => x5 (ix1 d)

/-- A sum of a rank-3 array over its first and last axis, as a double sum. -/
theorem sum_first_last (h : S32x4096x32.ReducesTo [0, 2] S4096) (v : S32x4096x32.Idx → EReal) (c : EReal)
    (r : Fin 4096) :
    Ideal.hostReduceAdd h v c (ix1 r) = c + ∑ i : Fin 32, ∑ d : Fin 32, v (ix3 i r d) := by
  have hd : ∀ j : S32x4096x32.Idx, h.drop j = ix1 r ↔ (j 1 : Fin 4096) = r := by
    intro j
    have e : ((h.drop j 0 : Fin 4096) : Nat) = (j 1 : Fin 4096) := h.drop_apply_val_of_eq j 0 1
    constructor
    · intro hj; rw [hj] at e; exact Fin.ext e.symm
    · rintro rfl; rw [eq_ix1 (h.drop j)]; exact congrArg ix1 (Fin.ext e)
  unfold Ideal.hostReduceAdd
  congr 1
  rw [← Fintype.sum_prod_type']
  refine Finset.sum_nbij' (fun j => ((j 0 : Fin 32), (j 2 : Fin 32))) (fun p => ix3 p.1 r p.2) ?_ ?_ ?_ ?_ ?_
  · intro j _; exact Finset.mem_univ _
  · intro p _; exact Finset.mem_filter.2 ⟨Finset.mem_univ _, (hd _).2 rfl⟩
  · intro j hj
    have := (hd j).1 (Finset.mem_filter.1 hj).2
    rw [← this]; exact ix3_eta j
  · intro p _; rfl
  · intro j hj
    have := (hd j).1 (Finset.mem_filter.1 hj).2
    rw [← this]; exact congrArg v (eq_ix3 j)

/-- The factor in front of the drift. -/
theorem factor_apply (r : Fin 4096) : val_main_v27 (F := Ideal) x0 (ix2 r 0) = RefSpec.factor (tm x0) := by
  pointwise [val_main_v0, val_main_cst, val_main_v1, val_main_v2, val_main_v3, val_main_v24, val_main_cst_3,
    val_main_v25, val_main_cst_4, val_main_v26, val_main_v27, RefSpec.factor]

/-- The factor again, as the second result's computation spells it. -/
theorem factor_apply' (r : Fin 4096) : val_main_v66 (F := Ideal) x0 (ix2 r 0) = RefSpec.factor (tm x0) := by
  pointwise [val_main_v0, val_main_cst, val_main_v1, val_main_v2, val_main_v3, val_main_v63, val_main_cst_8,
    val_main_v64, val_main_cst_9, val_main_v65, val_main_v66, RefSpec.factor]

/-- The scale of the score. -/
theorem scale_apply (r : Fin 4096) : val_main_v13 (F := Ideal) x0 (ix2 r 0) = RefSpec.scale (tm x0) := by
  pointwise [val_main_v0, val_main_cst, val_main_v1, val_main_v2, val_main_v3, val_main_v4, val_main_cst_0,
    val_main_v5, val_main_v6, val_main_v7, val_main_v8, val_main_cst_1, val_main_v9, val_main_v10, val_main_v11,
    val_main_cst_2, val_main_v12, val_main_v13, RefSpec.scale]

/-- A hidden unit of the first layer. -/
theorem hid_apply (r : Fin 4096) (h : Fin 256) :
    val_main_v19 (F := Ideal) x0 x1 x2 x3 (ix2 r h) = RefSpec.hid (tm x0) (row x1 r) (w1 x2) (b1 x3) h := by
  pointwise [val_main_v0, val_main_cst, val_main_v1, val_main_v2, val_main_v3, val_main_v14, val_main_v15,
    val_main_v16, val_main_v17, val_main_v18, val_main_v19, RefSpec.hid]

/-- A hidden unit again, as the second result's computation spells it. -/
theorem hid_apply' (r : Fin 4096) (h : Fin 256) :
    val_main_v49 (F := Ideal) x0 x1 x2 x3 (ix2 r h) = RefSpec.hid (tm x0) (row x1 r) (w1 x2) (b1 x3) h := by
  pointwise [val_main_v0, val_main_cst, val_main_v1, val_main_v2, val_main_v3, val_main_v40, val_main_v44,
    val_main_v46, val_main_v47, val_main_v48, val_main_v49, RefSpec.hid]

/-- The first result at an index. -/
theorem drift_apply (r : Fin 4096) (d : Fin 32) :
    val_main_v32 (F := Ideal) x0 x1 x2 x3 x4 x5 (ix2 r d)
      = RefSpec.drift (tm x0) (row x1 r) (w1 x2) (b1 x3) (w2 x4) (b2 x5) d := by
  pointwise [val_main_v20, val_main_v21, val_main_v22, val_main_v23, val_main_v28, val_main_v29, val_main_v30,
    val_main_v31, val_main_v32]
  simp only [factor_apply, scale_apply, hid_apply]
  rfl

/-- The derivative of the hyperbolic tangent at a hidden unit. -/
theorem slope_apply (r : Fin 4096) (h : Fin 256) :
    val_main_v54 (F := Ideal) x0 x1 x2 x3 (ix2 r h)
      = (1 + RefSpec.hid (tm x0) (row x1 r) (w1 x2) (b1 x3) h)
        * (1 - RefSpec.hid (tm x0) (row x1 r) (w1 x2) (b1 x3) h) := by
  rw [← hid_apply']
  pointwise [val_main_v54, val_main_v53, val_main_v51, val_main_v52, val_main_cst_6, val_main_cst_7, val_main_v50]

/-- The derivative of a hidden unit in one direction. -/
theorem tangent_apply (i : Fin 32) (r : Fin 4096) (h : Fin 256) :
    val_main_v57 (F := Ideal) x0 x1 x2 x3 (ix3 i r h)
      = RefSpec.tangent (tm x0) (row x1 r) (w1 x2) (b1 x3) i h := by
  unfold RefSpec.tangent RefSpec.oneHot
  rw [← slope_apply]
  pointwise [val_main_v57, val_main_v56, val_main_v55, val_main_v45, val_main_v43, val_main_v42, val_main_v41,
    val_main_v39, val_main_v38, val_main_v37, val_main_v36, val_main_v35, val_main_c, val_main_v34, val_main_v33,
    val_main_cst_5]

/-- A direction of differentiation is a row of the identity matrix, the same at every row of the batch. -/
theorem oneHot_apply (i : Fin 32) (r : Fin 4096) (d : Fin 32) :
    val_main_v39 (F := Ideal) (ix3 i r d) = RefSpec.oneHot i d := by
  unfold RefSpec.oneHot
  pointwise [val_main_v39, val_main_v38, val_main_v37, val_main_v36, val_main_v35, val_main_c, val_main_v34,
    val_main_v33]

/-- An entry of the Jacobian of the drift. -/
theorem jac_apply (i : Fin 32) (r : Fin 4096) (d : Fin 32) :
    val_main_v78 (F := Ideal) x0 x1 x2 x3 x4 (ix3 i r d)
      = RefSpec.jac (tm x0) (row x1 r) (w1 x2) (b1 x3) (w2 x4) i d := by
  pointwise [val_main_v78, val_main_v77, val_main_v76, val_main_v73, val_main_v72, val_main_v71, val_main_v70,
    val_main_v69, val_main_v59]
  simp only [factor_apply', scale_apply, tangent_apply, oneHot_apply]
  rfl

/-- The second result at an index. -/
theorem negTrace_apply (r : Fin 4096) :
    val_main_v87 (F := Ideal) x0 x1 x2 x3 x4 (ix2 r 0)
      = RefSpec.negTrace (tm x0) (row x1 r) (w1 x2) (b1 x3) (w2 x4) := by
  have e : val_main_v87 (F := Ideal) x0 x1 x2 x3 x4 (ix2 r 0)
      = -(Ideal.hostReduceAdd reducesTo_S32x4096x32_S4096_d0_2 (val_main_v84 (F := Ideal) x0 x1 x2 x3 x4) 0 (ix1 r)) := by
    pointwise [val_main_v87, val_main_v86, val_main_v85, val_main_cst_11]
  rw [e, sum_first_last, zero_add]
  unfold RefSpec.negTrace
  congr 1
  refine Finset.sum_congr rfl fun i _ => Finset.sum_congr rfl fun d _ => ?_
  rw [← jac_apply]
  pointwise [val_main_v84, val_main_v83, val_main_v82, val_main_v81, val_main_v80, val_main_v79, val_main_cst_10]

end Cert.Proof.RefValue

end
-- ==== Proof.Algebra.lean ====
/-
  The two spellings of the drift and of its divergence are equal wherever the time, the first layer's weights for the
  row, and the second layer are finite. The row itself, the first bias and the time's weights may be infinite.
-/
module

public import proofs.«01_k».proof.Proof.Spec
public import proofs.«01_k».proof.Proof.RefSpec
public import Idealize.ShloMosaic.Lib.Pointwise
public import Mathlib.Data.EReal.Operations
public import Mathlib.Tactic.Ring
public import Mathlib.Tactic.Linarith
public import Mathlib.Tactic.NormNum

@[expose] public section

noncomputable section

namespace Cert.Proof.Algebra

open Idealize.ShloMosaic

/-! ### Constants -/

/-- The bits of minus one. -/
theorem bits_neg_one : Ideal.ofBits .f32 3212836864#32 = ((-1 : ℝ) : EReal) := by
  simp [Ideal.ofBits, Ideal.ieee, -EReal.coe_mul]; norm_num

/-- The bits of minus one half. -/
theorem bits_neg_half : Ideal.ofBits .f32 3204448256#32 = ((-(1 / 2) : ℝ) : EReal) := by
  simp [Ideal.ofBits, Ideal.ieee, -EReal.coe_mul]; norm_num

/-- The bits of two. -/
theorem bits_two : Ideal.ofBits .f32 1073741824#32 = ((2 : ℝ) : EReal) := by
  simp [Ideal.ofBits, Ideal.ieee, -EReal.coe_mul]; norm_num

/-- The bits of thirty-two. -/
theorem bits_dim : Ideal.ofBits .f32 1107296256#32 = ((32 : ℝ) : EReal) := by
  simp [Ideal.ofBits, Ideal.ieee, -EReal.coe_mul]; norm_num

/-! ### General facts -/

/-- A finite sum of reals, taken among the extended reals, is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A hyperbolic tangent is a real number, whatever its argument. -/
theorem tanh_real (x : EReal) : ∃ s : ℝ, Ideal.tanh x = s := by
  induction x with
  | bot => exact ⟨-1, by rw [EReal.coe_neg, EReal.coe_one]; rfl⟩
  | coe r => exact ⟨Real.tanh r, rfl⟩
  | top => exact ⟨1, by rw [EReal.coe_one]; rfl⟩

/-- Comparing two small indices written as words compares the indices. -/
theorem cmp_index {n : Nat} (hn : n < 2 ^ 32) (i k : Fin n) :
    IntOp.cmpi CmpIPredicate.eq (BitVec.ofNat 32 ↑i) (BitVec.ofNat 32 ↑k) = if i = k then 1#1 else 0#1 := by
  by_cases h : i = k
  · subst h; simp [IntOp.cmpi]
  · have hne : BitVec.ofNat 32 (i : Nat) ≠ BitVec.ofNat 32 (k : Nat) := by
      intro e
      have e' := congrArg BitVec.toNat e
      simp only [BitVec.toNat_ofNat] at e'
      rw [Nat.mod_eq_of_lt (by omega), Nat.mod_eq_of_lt (by omega)] at e'
      exact h (Fin.ext e')
    rw [if_neg h, IntOp.cmpi, beq_eq_false_iff_ne.2 hne]; rfl

/-- Masking a matrix off its diagonal and summing a row leaves the diagonal entry. -/
theorem sum_mask {n : Nat} (hn : n < 2 ^ 32) (i : Fin n) (f : Fin n → EReal) :
    (∑ k : Fin n, Scalar.select (IntOp.cmpi CmpIPredicate.eq (BitVec.ofNat 32 ↑i) (BitVec.ofNat 32 ↑k)) (f k) 0)
      = f i := by
  rw [Finset.sum_eq_single i]
  · simp [cmp_index hn, Scalar.select]
  · intro k _ hk
    simp [cmp_index hn, Scalar.select, Ne.symm hk]
  · intro h; exact absurd (Finset.mem_univ i) h

/-- The same for a sum down a column. -/
theorem sum_mask' {n : Nat} (hn : n < 2 ^ 32) (k : Fin n) (f : Fin n → EReal) :
    (∑ i : Fin n, Scalar.select (IntOp.cmpi CmpIPredicate.eq (BitVec.ofNat 32 ↑i) (BitVec.ofNat 32 ↑k)) (f i) 0)
      = f k := by
  rw [Finset.sum_eq_single k]
  · simp [cmp_index hn, Scalar.select]
  · intro i _ hi
    simp [cmp_index hn, Scalar.select, hi]
  · intro h; exact absurd (Finset.mem_univ k) h

/-- A row of the identity matrix. -/
theorem oneHot_eq (i k : Fin 32) : RefSpec.oneHot i k = ((if i = k then 1 else 0 : ℝ) : EReal) := by
  have e : IntOp.addi (BitVec.ofNat 32 (i : Nat)) 0#32 = BitVec.ofNat 32 (i : Nat) := by simp [IntOp.addi]
  unfold RefSpec.oneHot
  rw [e, cmp_index (by norm_num)]
  by_cases h : i = k
  · simp only [h, if_true]; show (((1#1 : BitVec 1).toNat : ℝ) : EReal) = _; norm_num
  · simp only [h, if_false]; show (((0#1 : BitVec 1).toNat : ℝ) : EReal) = _; norm_num

/-! ### The common parts -/

/-- The hidden units agree with no condition: only the order of a sum differs. -/
theorem hid_eq (t : EReal) (z : Fin 32 → EReal) (w : Fin 33 → Fin 256 → EReal) (b : Fin 256 → EReal) (h : Fin 256) :
    RefSpec.hid t z w b h = Spec.hid t z w b h := by
  unfold RefSpec.hid Spec.hid
  congr 1
  simp only [Finset.univ_unique, Finset.sum_const, Finset.card_singleton, one_smul]
  rw [add_comm (t * w 0 h), add_assoc]
  congr 1
  exact Finset.sum_congr rfl fun x _ => mul_comm _ _

/-- The hidden units are real numbers. -/
theorem hid_real (t : EReal) (z : Fin 32 → EReal) (w : Fin 33 → Fin 256 → EReal) (b : Fin 256 → EReal) :
    ∃ g : Fin 256 → ℝ, ∀ h, Spec.hid t z w b h = g h :=
  ⟨fun h => (tanh_real _).choose, fun h => (tanh_real _).choose_spec⟩

/-- The kernel's factor at a finite time. -/
theorem negT_coe (t : ℝ) : Spec.negT t = ((-t : ℝ) : EReal) := by
  rw [Spec.negT, bits_neg_one, ← EReal.coe_mul]; congr 1; ring

/-- The reference's factor at a finite time. -/
theorem factor_coe (t : ℝ) : RefSpec.factor t = ((-t : ℝ) : EReal) := by
  rw [RefSpec.factor, bits_neg_half, bits_two, ← EReal.coe_mul, ← EReal.coe_mul]; congr 1; ring

/-- The variance at a finite time. -/
theorem variance_coe (t : ℝ) : (1 : EReal) - Ideal.exp (-((t : EReal) * t)) = ((1 - Real.exp (-(t * t)) : ℝ) : EReal) := by
  rw [← EReal.coe_mul, ← EReal.coe_neg, EReal.coe_sub]; rfl

/-- At a finite nonzero time the two spellings of the scale are one real number. -/
theorem scale_coe {t : ℝ} (ht : t ≠ 0) : ∃ s : ℝ, Spec.invStd t = s ∧ RefSpec.scale t = s := by
  have hv : 0 < 1 - Real.exp (-(t * t)) := by
    have : Real.exp (-(t * t)) < 1 := by
      rw [← Real.exp_zero]; exact Real.exp_lt_exp.2 (by have := mul_self_pos.2 ht; linarith)
    linarith
  refine ⟨(Real.sqrt (1 - Real.exp (-(t * t))))⁻¹, ?_, ?_⟩
  · rw [Spec.invStd, zero_sub, variance_coe]
    exact (if_neg (not_lt.2 hv.le)).trans (if_neg hv.ne')
  · rw [RefSpec.scale, variance_coe]
    have hs : Real.sqrt (1 - Real.exp (-(t * t))) ≠ 0 := (Real.sqrt_pos.2 hv).ne'
    have e : Ideal.sqrt ((1 - Real.exp (-(t * t)) : ℝ) : EReal) = ((Real.sqrt (1 - Real.exp (-(t * t))) : ℝ) : EReal) :=
      if_neg (not_lt.2 hv.le)
    rw [e, Ideal.div, if_neg (by exact_mod_cast hs), one_mul, EReal.coe_inv]

/-! ### The drift -/

/-- A nonzero real distributes over the difference of any extended real and a real. -/
theorem mul_sub_real {a : ℝ} (ha : a ≠ 0) (z : EReal) (y : ℝ) :
    (a : EReal) * z - ((a * y : ℝ) : EReal) = a * (z - y) := by
  induction z with
  | coe r => rw [← EReal.coe_sub, ← EReal.coe_mul, ← EReal.coe_mul, ← EReal.coe_sub]; congr 1; ring
  | top =>
    rw [EReal.top_sub_coe]
    rcases lt_or_gt_of_ne ha with h | h
    · rw [EReal.coe_mul_top_of_neg h, EReal.bot_sub]
    · rw [EReal.coe_mul_top_of_pos h, EReal.top_sub_coe]
  | bot =>
    rw [EReal.bot_sub]
    rcases lt_or_gt_of_ne ha with h | h
    · rw [EReal.coe_mul_bot_of_neg h, EReal.top_sub_coe]
    · rw [EReal.coe_mul_bot_of_pos h, EReal.bot_sub]

/-- The first result agrees where the time and the second layer are finite. -/
theorem drift_eq (t : ℝ) (z : Fin 32 → EReal) (w : Fin 33 → Fin 256 → EReal) (b : Fin 256 → EReal)
    (u : Fin 256 → Fin 32 → ℝ) (e : Fin 32 → ℝ) (d : Fin 32) :
    RefSpec.drift t z w b (fun h d => u h d) (fun d => e d) d
      = Spec.drift t z w b (fun h d => u h d) (fun d => e d) d := by
  obtain ⟨g, hg⟩ := hid_real t z w b
  unfold RefSpec.drift Spec.drift Spec.layer2
  simp only [hid_eq, hg, factor_coe, negT_coe, ← EReal.coe_mul, coe_sum, ← EReal.coe_add]
  by_cases ht : t = 0
  · subst ht; simp
  obtain ⟨s, hk, hr⟩ := scale_coe ht
  rw [hk, hr, ← EReal.coe_mul, ← EReal.coe_mul, ← EReal.coe_mul, ← mul_sub_real (neg_ne_zero.2 ht)]
  congr 2
  simp only [mul_comm (u _ _)]
  ring

/-! ### The divergence -/

/-- The diagonal weights of the kernel are real. -/
theorem diagW_coe (w : Fin 33 → Fin 256 → EReal) (v : Fin 32 → Fin 256 → ℝ) (hw : ∀ k h, w ⟨1 + k.val, by omega⟩ h = v k h)
    (u : Fin 256 → Fin 32 → ℝ) (h : Fin 256) :
    Spec.diagW w (fun h d => u h d) h = ((∑ d : Fin 32, v d h * u h d : ℝ) : EReal) := by
  unfold Spec.diagW
  rw [sum_mask' (by norm_num) h (fun x => ∑ d : Fin 32, w ⟨1 + d, by omega⟩ x * (u h d : EReal))]
  simp only [hw, ← EReal.coe_mul, coe_sum]

/-- A direction picks one row of the first layer; the time's weight is multiplied by zero. -/
theorem pick_coe (w : Fin 33 → Fin 256 → EReal) (v : Fin 32 → Fin 256 → ℝ) (hw : ∀ k h, w ⟨1 + k.val, by omega⟩ h = v k h)
    (i : Fin 32) (h : Fin 256) :
    ∑ _x : Fin 1, 0 * w 0 h + ∑ k : Fin 32, RefSpec.oneHot i k * w ⟨1 + k, by omega⟩ h = (v i h : EReal) := by
  simp only [zero_mul, Finset.sum_const_zero, zero_add, hw, oneHot_eq, ← EReal.coe_mul, coe_sum]
  congr 1
  simp

/-- The trace of the Jacobian over the reals: the kernel's three sums against the reference's double sum. -/
theorem trace_real (t s : ℝ) (v : Fin 32 → Fin 256 → ℝ) (u : Fin 256 → Fin 32 → ℝ) (g : Fin 256 → ℝ) :
    -(∑ i : Fin 32, -t * (1 - s * ∑ h : Fin 256, v i h * ((1 + g h) * (1 - g h)) * u h i))
      = -t * s * (∑ h : Fin 256, ∑ d : Fin 32, v d h * u h d) - -t * 32
        - ∑ h : Fin 256, -t * s * (∑ d : Fin 32, v d h * u h d) * (g h * g h) := by
  have e1 : ∑ i : Fin 32, ∑ h : Fin 256, v i h * ((1 + g h) * (1 - g h)) * u h i
      = (∑ h : Fin 256, ∑ d : Fin 32, v d h * u h d) - ∑ h : Fin 256, (∑ d : Fin 32, v d h * u h d) * (g h * g h) := by
    rw [Finset.sum_comm, ← Finset.sum_sub_distrib]
    refine Finset.sum_congr rfl fun h _ => ?_
    rw [Finset.sum_mul, ← Finset.sum_sub_distrib]
    exact Finset.sum_congr rfl fun d _ => by ring
  have e2 : ∑ h : Fin 256, -t * s * (∑ d : Fin 32, v d h * u h d) * (g h * g h)
      = -t * s * ∑ h : Fin 256, (∑ d : Fin 32, v d h * u h d) * (g h * g h) := by
    rw [Finset.mul_sum]; exact Finset.sum_congr rfl fun h _ => by ring
  rw [e2, ← Finset.mul_sum, Finset.sum_sub_distrib, ← Finset.mul_sum, e1]
  simp only [Finset.sum_const, Finset.card_univ, Fintype.card_fin, nsmul_eq_mul]
  push_cast
  ring

/-- The second result agrees where the time, the first layer's weights for the row and the second layer are finite. -/
theorem negTrace_eq (t : ℝ) (z : Fin 32 → EReal) (w : Fin 33 → Fin 256 → EReal) (b : Fin 256 → EReal)
    (v : Fin 32 → Fin 256 → ℝ) (hw : ∀ k h, w ⟨1 + k.val, by omega⟩ h = v k h) (u : Fin 256 → Fin 32 → ℝ) :
    RefSpec.negTrace t z w b (fun h d => u h d) = Spec.negTrace t z w b (fun h d => u h d) := by
  obtain ⟨g, hg⟩ := hid_real t z w b
  unfold RefSpec.negTrace Spec.negTrace
  simp only [sum_mask (show 32 < 2 ^ 32 by norm_num)]
  unfold RefSpec.jac RefSpec.tangent
  simp only [pick_coe w v hw]
  simp only [diagW_coe w v hw, hid_eq, hg, factor_coe, negT_coe, bits_dim, oneHot_eq, if_true,
    ← EReal.coe_one, ← EReal.coe_add, ← EReal.coe_sub, ← EReal.coe_mul, coe_sum]
  by_cases ht : t = 0
  · subst ht; simp
  obtain ⟨s, hk, hr⟩ := scale_coe ht
  simp only [hk, hr, ← EReal.coe_sub, ← EReal.coe_mul, coe_sum, ← EReal.coe_neg]
  exact congrArg _ (trace_real t s v u g)

end Cert.Proof.Algebra

end
-- ==== Proof.PreRead.lean ====
/-
  What the precondition `finite` says: the time, the first layer's weights for the row, and both arrays of the second
  layer hold real numbers.
-/
module

public import proofs.«01_k».proof.Pre_finite
public import Idealize.ShloMosaic.Lib.Pointwise
public import Idealize.ShloMosaic.Lib.ReduceAll
public import Idealize.ShloMosaic.PureOps.Ideal
public import Mathlib.Data.EReal.Operations

@[expose] public section

noncomputable section

namespace Cert.Proof.PreRead

open Idealize.ShloMosaic Cert.Pre_finite

/-- The shape relations that the precondition's operations take. -/
instance facts : Cert.Pre_finite.Facts where
  bcast_S_S1 := by decide
  reducesTo_S1_S_d0 := by decide
  h_S_ := by decide
  slices_S33x256_S32x256_1_0 := by decide
  bcast_S_S32x256 := by decide
  reducesTo_S32x256_S_d0_1 := by decide
  bcast_S_S256x32 := by decide
  reducesTo_S256x32_S_d0_1 := by decide
  bcast_S_S32 := by decide
  reducesTo_S32_S_d0 := by decide

/-- The bits of infinity. -/
theorem bits_inf : Ideal.ofBits .f32 2139095040#32 = (⊤ : EReal) := by
  simp [Ideal.ofBits, Ideal.ieee]

/-- A number whose absolute value is below infinity is real. -/
theorem real_of_abs_lt {x : EReal} (h : Ideal.cmp .olt (max x (-x)) ⊤ = 1#1) : ∃ r : ℝ, x = r := by
  induction x with
  | bot => simp [Ideal.cmp] at h
  | coe r => exact ⟨r, rfl⟩
  | top => simp [Ideal.cmp] at h

/-- The precondition, read at each element. -/
theorem reals (x0 : FVec Ideal S1 .f32) (x1 : FVec Ideal S4096x32 .f32) (x2 : FVec Ideal S33x256 .f32)
    (x3 : FVec Ideal S256 .f32) (x4 : FVec Ideal S256x32 .f32) (x5 : FVec Ideal S32 .f32)
    (h : fn (F := Ideal) x0 x1 x2 x3 x4 x5 = fun _ => 1#1) :
    (∃ t : ℝ, x0 (ix1 0) = (t : EReal))
      ∧ (∀ (k : Fin 32) (i : Fin 256), ∃ r : ℝ, x2 (ix2 ⟨1 + k.val, by omega⟩ i) = (r : EReal))
      ∧ (∀ (i : Fin 256) (d : Fin 32), ∃ r : ℝ, x4 (ix2 i d) = (r : EReal))
      ∧ ∀ d : Fin 32, ∃ r : ℝ, x5 (ix1 d) = (r : EReal) := by
  haveI : Subsingleton S_.Idx := ⟨fun a b => funext fun i => i.elim0⟩
  have h0 := congrFun h ix0
  unfold fn fn_part1 at h0
  obtain ⟨ha, hb⟩ := IntOp.andi_eq_one.1 h0
  obtain ⟨ht, hw⟩ := IntOp.andi_eq_one.1 ha
  obtain ⟨hu, he⟩ := IntOp.andi_eq_one.1 hb
  refine ⟨?_, fun k i => ?_, fun i d => ?_, fun d => ?_⟩
  · have := Host.reduce_andi_all _ _ _ _ _ ht (ix1 0)
    apply real_of_abs_lt
    rw [← bits_inf, ← this]
    pointwise
    rfl
  · have := Host.reduce_andi_all _ _ _ _ _ hw (ix2 k i)
    apply real_of_abs_lt
    rw [← bits_inf, ← this]
    pointwise
    rfl
  · have := Host.reduce_andi_all _ _ _ _ _ hu (ix2 i d)
    apply real_of_abs_lt
    rw [← bits_inf, ← this]
    pointwise
    rfl
  · have := Host.reduce_andi_all _ _ _ _ _ he (ix1 d)
    apply real_of_abs_lt
    rw [← bits_inf, ← this]
    pointwise
    rfl

end Cert.Proof.PreRead

end
-- ==== Proof.Match.lean ====
/-
  The kernel's two results are the reference's, on every device, from a memory that meets the precondition.
-/
module

public import proofs.«01_k».proof.Defs
public import proofs.«01_k».proof.Proof.KernelRun
public import proofs.«01_k».proof.Proof.RefValue
public import proofs.«01_k».proof.Proof.Algebra
public import proofs.«01_k».proof.Proof.PreRead

@[expose] public section

noncomputable section

namespace Cert.Proof.Match

open Idealize.ShloMosaic Idealize.SL.Sem Idealize.ShloMosaic.TcCoe
open Cert.KernelIdeal Cert.ReferenceIdeal.Read

variable (m : (ℓ : Loc nD τ sig) → Buf (Elt Ideal) ℓ)

/-- What the precondition gives on one device: real numbers in the time, in the first layer's weights for the row, and
    in both arrays of the second layer. -/
theorem reals (hp : Cert.Pre_KernelIdeal_finite m) (c : Dev nD) :
    ∃ (t : ℝ) (v : Fin 32 → Fin 256 → ℝ) (u : Fin 256 → Fin 32 → ℝ) (e : Fin 32 → ℝ),
      KernelRun.tm m c = t ∧ (∀ k h, KernelRun.w1 m c ⟨1 + k.val, by omega⟩ h = v k h)
        ∧ KernelRun.w2 m c = (fun h d => (u h d : EReal)) ∧ KernelRun.b2 m c = fun d => (e d : EReal) := by
  obtain ⟨⟨t, ht⟩, hw, hu, he⟩ := PreRead.reals _ _ _ _ _ _ (hp c)
  choose v hv using hw
  choose u hu using hu
  choose e he using he
  exact ⟨t, v, u, e, ht, hv, funext fun h => funext fun d => hu h d, funext he⟩

/-- The first result at one row and coordinate. -/
theorem drift_row (hp : Cert.Pre_KernelIdeal_finite m) (c : Dev nD) (r : Fin 4096) (d : Fin 32) :
    RefSpec.drift (KernelRun.tm m c) (KernelRun.row m c r) (KernelRun.w1 m c) (KernelRun.b1 m c) (KernelRun.w2 m c)
        (KernelRun.b2 m c) d
      = KernelRun.driftOut m c (ix2 r d) := by
  obtain ⟨t, v, u, e, ht, hv, hu, he⟩ := reals m hp c
  rw [KernelRun.driftOut_apply, ht, hu, he]
  exact Algebra.drift_eq t _ _ _ u e d

/-- The second result at one row. -/
theorem negTrace_row (hp : Cert.Pre_KernelIdeal_finite m) (c : Dev nD) (r : Fin 4096) :
    RefSpec.negTrace (KernelRun.tm m c) (KernelRun.row m c r) (KernelRun.w1 m c) (KernelRun.b1 m c)
        (KernelRun.w2 m c)
      = KernelRun.negTraceOut m c (ix2 r 0) := by
  obtain ⟨t, v, u, e, ht, hv, hu, he⟩ := reals m hp c
  rw [KernelRun.negTraceOut_apply, ht, hu]
  exact Algebra.negTrace_eq t _ _ _ v hv u

/-- The first result, as whole arrays. -/
theorem drift_match (hp : Cert.Pre_KernelIdeal_finite m) (c : Dev nD) :
    val_main_v32 (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
      = KernelRun.driftOut m c := by
  refine funext fun (i : S4096x32.Idx) => ?_
  rw [eq_ix2 i]
  exact (RefValue.drift_apply _ _ _ _ _ _ _ _).trans (drift_row m hp c _ _)

/-- The second result, as whole arrays. -/
theorem negTrace_match (hp : Cert.Pre_KernelIdeal_finite m) (c : Dev nD) :
    val_main_v87 (F := Ideal) (m ((c : Thread nD τ).loc main_arg0)) (m ((c : Thread nD τ).loc main_arg1))
        (m ((c : Thread nD τ).loc main_arg2)) (m ((c : Thread nD τ).loc main_arg3))
        (m ((c : Thread nD τ).loc main_arg4))
      = KernelRun.negTraceOut m c := by
  refine funext fun (i : S4096x1.Idx) => ?_
  have hi : i = ix2 (i 0) 0 := by
    rw [eq_ix2 i]; exact congrArg (ix2 (i 0)) (Subsingleton.elim (α := Fin 1) _ _)
  rw [hi]
  exact (RefValue.negTrace_apply _ _ _ _ _ _).trans (negTrace_row m hp c _)

end Cert.Proof.Match

end
-- ==== Proof.lean ====
/-
  The certificate's claims: each program ends with its arguments as they were and its counters at zero, the ideal
  kernel is the kernel, and the ideal kernel's two results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Match
public import Idealize.ShloMosaic.Lib.Quiescent
public import Idealize.ShloMosaic.Adequacy
public import Idealize.ShloMosaic.Init

@[expose] public section

noncomputable section

namespace Cert.Proof

open Idealize.ShloMosaic Idealize.SL.Sem

/-- The reference ends, leaves its arguments as they were, and has no counter left above zero. -/
theorem reference_frame : quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The kernel and the reference end with equal results, in both arrays, from finite arguments. -/
theorem results_equal : algebraic_KernelIdeal_ReferenceIdeal_pre_finite := by
  intro m g m' g' hp hagree
  refine ⟨KernelRun.driftOut m, KernelRun.negTraceOut m, KernelRun.run m g, ?_⟩
  refine (θ_run Cert.ReferenceIdeal.defs _ _).mono (fun r h c => ⟨?_, ?_, (h c).2.2⟩)
    (Cert.ReferenceIdeal.Value.run (F := Ideal) m' g')
  · obtain ⟨h0, h1, h2, h3, h4, h5⟩ := hagree c
    refine ((h c).1.trans (Cert.ReferenceIdeal.Read.val_main_v32_eq ..)).trans ?_
    rw [h0, h1, h2, h3, h4, h5]
    exact Match.drift_match m hp c
  · obtain ⟨h0, h1, h2, h3, h4, _⟩ := hagree c
    refine ((h c).2.1.trans (Cert.ReferenceIdeal.Read.val_main_v87_eq m' c)).trans ?_
    rw [h0, h1, h2, h3, h4]
    exact Match.negTrace_match m hp c

/-- Every claim of this certificate. -/
theorem claim : Cert.Claim :=
  ⟨Cert.Kernel.Gen.facts, Cert.KernelIdeal.Gen.facts, Cert.ReferenceIdeal.Gen.facts, PreRead.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    results_equal⟩

end Cert.Proof

end
